-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x768x32x32 : Shape := ⟨4, ![8, 768, 32, 32]⟩
abbrev S_ : Shape := ⟨0, ![]⟩

class Facts : Prop where
  bcast_S_S8x768x32x32 : S_.BroadcastsInDim S8x768x32x32 (![] : Fin 0 → Fin S8x768x32x32.rank)

variable [Facts]

def fn {F : FTy → Type} [FloatOps F] (main_arg0 : FVec F S8x768x32x32 .f32) : IVec S8x768x32x32 1 :=
  let main_v0 : FVec F S8x768x32x32 .f32 := Host.absf main_arg0
  let main_cst : FVec F S_ .f32 := constant S_ .f32 0x7F800000#32
  let main_v1 : FVec F S8x768x32x32 .f32 := broadcastInDim S8x768x32x32 ![] bcast_S_S8x768x32x32 main_cst
  let main_v2 : IVec S8x768x32x32 1 := cmpf .olt main_v0 main_v1
  main_v2
-- ==== Kernel.lean ====
abbrev S8x768x32x32 : Shape := ⟨4, ![8, 768, 32, 32]⟩
abbrev S8x32x32x768 : Shape := ⟨4, ![8, 32, 32, 768]⟩
abbrev S8x1024x768 : Shape := ⟨3, ![8, 1024, 768]⟩
abbrev S8x512x768 : Shape := ⟨3, ![8, 512, 768]⟩
abbrev S8 : Shape := ⟨1, ![8]⟩
abbrev S8x2 : Shape := ⟨2, ![8, 2]⟩
abbrev S1 : Shape := ⟨1, ![1]⟩
abbrev S_ : Shape := ⟨0, ![]⟩
abbrev S1x1024x768 : Shape := ⟨3, ![1, 1024, 768]⟩
abbrev S1024x768 : Shape := ⟨2, ![1024, 768]⟩
abbrev S1x1 : Shape := ⟨2, ![1, 1]⟩
abbrev S1x512x768 : Shape := ⟨3, ![1, 512, 768]⟩
abbrev S512x768 : Shape := ⟨2, ![512, 768]⟩
abbrev S8x32x16x768 : Shape := ⟨4, ![8, 32, 16, 768]⟩
abbrev S8x768x32x16 : Shape := ⟨4, ![8, 768, 32, 16]⟩

abbrev nBuf : Space → Nat
  | .hbm => 9
  | .vmem => 1
  | .smem => 0
  | _ => 0

abbrev bufTy : (tb : Table) → Fin (tcTables nBuf tb) → BufTy
  | .hbm, ⟨0, _⟩ => ⟨S8x768x32x32, .f32⟩
  | .hbm, ⟨1, _⟩ => ⟨S8x32x32x768, .f32⟩
  | .hbm, ⟨2, _⟩ => ⟨S8x1024x768, .f32⟩
  | .hbm, ⟨3, _⟩ => ⟨S8x512x768, .f32⟩
  | .hbm, ⟨4, _⟩ => ⟨S8x512x768, .f32⟩
  | .hbm, ⟨5, _⟩ => ⟨S8x32x16x768, .f32⟩
  | .hbm, ⟨6, _⟩ => ⟨S8x768x32x16, .f32⟩
  | .hbm, ⟨7, _⟩ => ⟨S8x32x16x768, .f32⟩
  | .hbm, ⟨8, _⟩ => ⟨S8x768x32x16, .f32⟩
  | .local _ .vmem, ⟨0, _⟩ => ⟨S8x1024x768, .f32⟩
  | _, _ => ⟨S8x768x32x32, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== ReferenceIdeal.lean ====
abbrev S8x768x32x32 : Shape := ⟨4, ![8, 768, 32, 32]⟩
abbrev S8x768x1024 : Shape := ⟨3, ![8, 768, 1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S8x512 : Shape := ⟨2, ![8, 512]⟩
abbrev S8x1x512 : Shape := ⟨3, ![8, 1, 512]⟩
abbrev S8x768x512 : Shape := ⟨3, ![8, 768, 512]⟩
abbrev S8x768x512x1 : Shape := ⟨4, ![8, 768, 512, 1]⟩
abbrev S1 : Shape := ⟨1, ![1]⟩
abbrev S1x1x1x1 : Shape := ⟨4, ![1, 1, 1, 1]⟩
abbrev S8 : Shape := ⟨1, ![8]⟩
abbrev S8x1 : Shape := ⟨2, ![8, 1]⟩
abbrev S8x512x1 : Shape := ⟨3, ![8, 512, 1]⟩
abbrev S8x512x2 : Shape := ⟨3, ![8, 512, 2]⟩
abbrev S1024 : Shape := ⟨1, ![1024]⟩
abbrev S1x1024 : Shape := ⟨2, ![1, 1024]⟩
abbrev S8x768x32x16 : Shape := ⟨4, ![8, 768, 32, 16]⟩

abbrev nBuf : Space → Nat
  | .hbm => 110
  | .vmem => 0
  | .smem => 0
  | _ => 0

abbrev bufTy : (tb : Table) → Fin (tcTables nBuf tb) → BufTy
  | .hbm, ⟨0, _⟩ => ⟨S8x768x32x32, .f32⟩
  | .hbm, ⟨1, _⟩ => ⟨S8x768x1024, .f32⟩
  | .hbm, ⟨2, _⟩ => ⟨S8x1024x1024, .f32⟩
  | .hbm, ⟨3, _⟩ => ⟨S_, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S8x1024x1, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S_, .f32⟩
  | .hbm, ⟨13, _⟩ => ⟨S8x1024, .f32⟩
  | .hbm, ⟨14, _⟩ => ⟨S8x1024x1, .f32⟩
  | .hbm, ⟨15, _⟩ => ⟨S8x1024x1024, .f32⟩
  | .hbm, ⟨16, _⟩ => ⟨S8x1024x1024, .f32⟩
  | .hbm, ⟨17, _⟩ => ⟨S_, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x512, .f32⟩
  | .hbm, ⟨23, _⟩ => ⟨S8x512, .i32⟩
  | .hbm, ⟨24, _⟩ => ⟨S8x1x512, .i32⟩
  | .hbm, ⟨25, _⟩ => ⟨S8x768x512, .i32⟩
  | .hbm, ⟨26, _⟩ => ⟨S_, .i32⟩
  | .hbm, ⟨27, _⟩ => ⟨S8x768x512, .i32⟩
  | .hbm, ⟨28, _⟩ => ⟨S8x768x512, .i1⟩
  | .hbm, ⟨29, _⟩ => ⟨S_, .i32⟩
  | .hbm, ⟨30, _⟩ => ⟨S8x768x512, .i32⟩
  | .hbm, ⟨31, _⟩ => ⟨S8x768x512, .i32⟩
  | .hbm, ⟨32, _⟩ => ⟨S8x768x512, .i32⟩
  | .hbm, ⟨33, _⟩ => ⟨S8x768x512x1, .i32⟩
  | .hbm, ⟨34, _⟩ => ⟨S1, .i32⟩
  | .hbm, ⟨35, _⟩ => ⟨S_, .i32⟩
  | .hbm, ⟨36, _⟩ => ⟨S8x768x512x1, .i32⟩
  | .hbm, ⟨37, _⟩ => ⟨S8x768x512x1, .i1⟩
  | .hbm, ⟨38, _⟩ => ⟨S1x1x1x1, .i32⟩
  | .hbm, ⟨39, _⟩ => ⟨S8x768x512x1, .i32⟩
  | .hbm, ⟨40, _⟩ => ⟨S8x768x512x1, .i1⟩
  | .hbm, ⟨41, _⟩ => ⟨S8x768x512x1, .i1⟩
  | .hbm, ⟨42, _⟩ => ⟨S_, .i1⟩
  | .hbm, ⟨43, _⟩ => ⟨S8x768x512, .i1⟩
  | .hbm, ⟨44, _⟩ => ⟨S8x768x512, .f32⟩
  | .hbm, ⟨45, _⟩ => ⟨S_, .f32⟩
  | .hbm, ⟨46, _⟩ => ⟨S8x768x512, .f32⟩
  | .hbm, ⟨47, _⟩ => ⟨S8x768x512, .f32⟩
  | .hbm, ⟨48, _⟩ => ⟨S_, .i1⟩
  | .hbm, ⟨49, _⟩ => ⟨S8x1024, .i1⟩
  | .hbm, ⟨50, _⟩ => ⟨S8, .i32⟩
  | .hbm, ⟨51, _⟩ => ⟨S8x1, .i32⟩
  | .hbm, ⟨52, _⟩ => ⟨S_, .i32⟩
  | .hbm, ⟨53, _⟩ => ⟨S8x1, .i32⟩
  | .hbm, ⟨54, _⟩ => ⟨S8x1, .i1⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x1, .i32⟩
  | .hbm, ⟨59, _⟩ => ⟨S_, .i32⟩
  | .hbm, ⟨60, _⟩ => ⟨S8x512, .i32⟩
  | .hbm, ⟨61, _⟩ => ⟨S8x512, .i1⟩
  | .hbm, ⟨62, _⟩ => ⟨S_, .i32⟩
  | .hbm, ⟨63, _⟩ => ⟨S8x512, .i32⟩
  | .hbm, ⟨64, _⟩ => ⟨S8x512, .i32⟩
  | .hbm, ⟨65, _⟩ => ⟨S8x512, .i32⟩
  | .hbm, ⟨66, _⟩ => ⟨S8x512, .i32⟩
  | .hbm, ⟨67, _⟩ => ⟨S8x512x1, .i32⟩
  | .hbm, ⟨68, _⟩ => ⟨S8x512x1, .i32⟩
  | .hbm, ⟨69, _⟩ => ⟨S8x512x2, .i32⟩
  | .hbm, ⟨70, _⟩ => ⟨S_, .i1⟩
  | .hbm, ⟨71, _⟩ => ⟨S8x512, .i1⟩
  | .hbm, ⟨72, _⟩ => ⟨S8x1024, .i1⟩
  | .hbm, ⟨73, _⟩ => ⟨S1024, .i32⟩
  | .hbm, ⟨74, _⟩ => ⟨S1x1024, .i32⟩
  | .hbm, ⟨75, _⟩ => ⟨S1x1024, .i32⟩
  | .hbm, ⟨76, _⟩ => ⟨S_, .i32⟩
  | .hbm, ⟨77, _⟩ => ⟨S1x1024, .i32⟩
  | .hbm, ⟨78, _⟩ => ⟨S1x1024, .i32⟩
  | .hbm, ⟨79, _⟩ => ⟨S8x1024, .i32⟩
  | .hbm, ⟨80, _⟩ => ⟨S8x1024, .i32⟩
  | .hbm, ⟨81, _⟩ => ⟨S8x1024, .i32⟩
  | .hbm, ⟨82, _⟩ => ⟨S8x1024, .i32⟩
  | .hbm, ⟨83, _⟩ => ⟨S8x512, .i32⟩
  | .hbm, ⟨84, _⟩ => ⟨S8x1x512, .i32⟩
  | .hbm, ⟨85, _⟩ => ⟨S8x768x512, .i32⟩
  | .hbm, ⟨86, _⟩ => ⟨S_, .i32⟩
  | .hbm, ⟨87, _⟩ => ⟨S8x768x512, .i32⟩
  | .hbm, ⟨88, _⟩ => ⟨S8x768x512, .i1⟩
  | .hbm, ⟨89, _⟩ => ⟨S_, .i32⟩
  | .hbm, ⟨90, _⟩ => ⟨S8x768x512, .i32⟩
  | .hbm, ⟨91, _⟩ => ⟨S8x768x512, .i32⟩
  | .hbm, ⟨92, _⟩ => ⟨S8x768x512, .i32⟩
  | .hbm, ⟨93, _⟩ => ⟨S8x768x512x1, .i32⟩
  | .hbm, ⟨94, _⟩ => ⟨S1, .i32⟩
  | .hbm, ⟨95, _⟩ => ⟨S_, .i32⟩
  | .hbm, ⟨96, _⟩ => ⟨S8x768x512x1, .i32⟩
  | .hbm, ⟨97, _⟩ => ⟨S8x768x512x1, .i1⟩
  | .hbm, ⟨98, _⟩ => ⟨S1x1x1x1, .i32⟩
  | .hbm, ⟨99, _⟩ => ⟨S8x768x512x1, .i32⟩
  | .hbm, ⟨100, _⟩ => ⟨S8x768x512x1, .i1⟩
  | .hbm, ⟨101, _⟩ => ⟨S8x768x512x1, .i1⟩
  | .hbm, ⟨102, _⟩ => ⟨S_, .i1⟩
  | .hbm, ⟨103, _⟩ => ⟨S8x768x512, .i1⟩
  | .hbm, ⟨104, _⟩ => ⟨S8x768x512, .f32⟩
  | .hbm, ⟨105, _⟩ => ⟨S_, .f32⟩
  | .hbm, ⟨106, _⟩ => ⟨S8x768x512, .f32⟩
  | .hbm, ⟨107, _⟩ => ⟨S8x768x512, .f32⟩
  | .hbm, ⟨108, _⟩ => ⟨S8x768x32x16, .f32⟩
  | .hbm, ⟨109, _⟩ => ⟨S8x768x32x16, .f32⟩
  | _, _ => ⟨S8x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_v16 : Ref sig .tc := ⟨.hbm, 24, rfl⟩
abbrev main_v17 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_c_7 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_call1_v0 : Ref sig .tc := ⟨.hbm, 79, rfl⟩
abbrev main_call1_v1 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩

abbrev nD : Nat := 1
abbrev τ : Topo := Topo.v7x

variable {F : FTy → Type} [FloatOps F]
-- ==== Proof.Slab.lean ====
/-
  Reading and writing a stack of `d` images, each `n` rows of `w` lanes, one image at a time: the view of rows
  `o, …, o + k - 1` of image `b` is the slice of the stack at `(b, o, 0)` with its leading unit axis dropped. Two facts
  about such a view — what it reads (`read_rows`), what a write through it leaves elsewhere (`read_write_other`) — and
  the one consequence the kernel's copies need: a stack written image after image, each with the wanted image, holds the
  wanted stack (`Filled`).
-/
module

public import Idealize.ShloMosaic.Lib.ValueIdx
public import Idealize.ShloMosaic.Lib.Tactic

@[expose] public section

noncomputable section

namespace Cert.Slab

open Idealize.ShloMosaic
open Idealize.ShloMosaic.ValueIdx (ix2 ix3)

variable {Val : EltTy → Type} {sig : RefSig} {κ : Kind} {sp : Space} {d n w k : ℕ}

/-- The stack's shape, one image's rows with the leading unit axis, and without it. -/
abbrev stack (d n w : ℕ) : Shape := ⟨3, ![d, n, w]⟩
abbrev lifted (k w : ℕ) : Shape := ⟨3, ![1, k, w]⟩
abbrev rows (k w : ℕ) : Shape := ⟨2, ![k, w]⟩

/-- Rows `o …` of image `b`, as a view of the stack. -/
abbrev slab (M : Memref sig κ sp (stack d n w) .f32) (off : Fin 3 → ℕ)
    (inb : ∀ a, off a + (lifted k w).size a ≤ (stack d n w).size a)
    (hr : ∀ a, (Rect.unit (s := stack d n w) off (lifted k w).size inb).stride a = 1)
    (hq : (lifted k w).Squeezes (rows k w)) : View sig κ sp (rows k w) .f32 :=
  ((M.slice (Rect.unit (s := stack d n w) off (lifted k w).size inb) hr).squeeze (rows k w) hq).view

/-- The element of the stack under row `i`, lane `j` of the view. -/
theorem slab_emb (M : Memref sig κ sp (stack d n w) .f32) (b o : ℕ) (inb) (hr) (hq) (hb : b < d) (ho : o + k ≤ n)
    (i : Fin k) (j : Fin w) :
    (slab (k := k) M ![b, o, 0] inb hr hq).emb (ix2 i j)
      = M.view.emb (ix3 ⟨b, hb⟩ ⟨o + i, Nat.lt_of_lt_of_le (Nat.add_lt_add_left i.isLt o) ho⟩ j) := by
  have e : (slab (k := k) M ![b, o, 0] inb hr hq).emb (ix2 i j)
      = M.view.emb ((Rect.unit (s := stack d n w) ![b, o, 0] (lifted k w).size inb).emb
          (Shape.reshapeEquiv hq.numel_eq (ix2 i j))) := rfl
  rw [e, Shape.reshapeEquiv_cons_one]
  congr 1
  funext a
  apply Fin.ext
  rw [Rect.emb_apply]
  match a with
  | ⟨0, _⟩ => show b + 1 * 0 = b; omega
  | ⟨1, _⟩ => show o + 1 * i.val = o + i.val; omega
  | ⟨2, _⟩ => show 0 + 1 * j.val = j.val; omega

/-- The view reads the stack's rows. -/
theorem read_rows (M : Memref sig κ sp (stack d n w) .f32) (b o : ℕ) (inb) (hr) (hq) (hb : b < d) (ho : o + k ≤ n)
    (f : M.view.ty.Contents Val) (i : Fin k) (j : Fin w) :
    (slab (k := k) M ![b, o, 0] inb hr hq).read Val f (ix2 i j)
      = M.view.read Val f (ix3 ⟨b, hb⟩ ⟨o + i, Nat.lt_of_lt_of_le (Nat.add_lt_add_left i.isLt o) ho⟩ j) := by
  rw [View.read_apply, View.read_apply, slab_emb M b o inb hr hq hb ho]

/-- Writing one image leaves every other image as it was. -/
theorem read_write_other (M : Memref sig κ sp (stack d n w) .f32) (b o : ℕ) (inb) (hr) (hq) (hb : b < d) (ho : o + k ≤ n)
    (f : M.view.ty.Contents Val) (p : (rows k w).Idx → Val .f32) (b' : Fin d) (hne : b'.val ≠ b) (t : Fin n) (c : Fin w) :
    M.view.read Val ((slab (k := k) M ![b, o, 0] inb hr hq).write Val f p Finset.univ) (ix3 b' t c)
      = M.view.read Val f (ix3 b' t c) := by
  apply View.read_congr_at
  apply View.write_of_not_mem
  intro hm
  obtain ⟨x, -, hx⟩ := Finset.mem_map.mp hm
  obtain ⟨i, j, rfl⟩ : ∃ (i : Fin k) (j : Fin w), x = ix2 i j := ⟨x 0, x 1, ValueIdx.eq_ix2 x⟩
  rw [slab_emb M b o inb hr hq hb ho] at hx
  have h0 := congrArg (fun i : (stack d n w).Idx => (i 0 : ℕ)) (M.view.emb.injective hx)
  exact hne h0.symm

/-- One image's view reads the image. -/
theorem read_image (M : Memref sig κ sp (stack d n w) .f32) (b : ℕ) (inb) (hr) (hq) (hb : b < d)
    (f : M.view.ty.Contents Val) (t : Fin n) (c : Fin w) :
    (slab (k := n) M ![b, 0, 0] inb hr hq).read Val f (ix2 t c) = M.view.read Val f (ix3 ⟨b, hb⟩ t c) := by
  rw [read_rows M b 0 inb hr hq hb (by omega)]
  congr 2
  exact Fin.ext (Nat.zero_add _)

/-- The stack of rows `o, …, o + k - 1` of every image. -/
def rowsFrom {α : Type} (o : ℕ) (ho : o + k ≤ n) (x : (stack d n w).Idx → α) : (stack d k w).Idx → α :=
  fun i => x (ix3 (i 0) ⟨o + (i 1).val, Nat.lt_of_lt_of_le (Nat.add_lt_add_left (i 1).isLt o) ho⟩ (i 2))

/-- The stack's first `k` images hold `G`'s. -/
def Filled (M : Memref sig κ sp (stack d n w) .f32) (G : (stack d n w).Idx → Val .f32) (k : ℕ) (f : M.view.ty.Contents Val) : Prop :=
  ∀ (b : Fin d) (t : Fin n) (c : Fin w), b.val < k → M.view.read Val f (ix3 b t c) = G (ix3 b t c)

theorem filled_zero (M : Memref sig κ sp (stack d n w) .f32) (G : (stack d n w).Idx → Val .f32) (f : M.view.ty.Contents Val) :
    Filled M G 0 f := fun _ _ _ h => absurd h (Nat.not_lt_zero _)

/-- Writing `G`'s image `k` whole fills one image more. -/
theorem Filled.step {M : Memref sig κ sp (stack d n w) .f32} {G : (stack d n w).Idx → Val .f32} {k : ℕ} {f : M.view.ty.Contents Val}
    (hk : k < d) (h : Filled M G k f) (inb) (hr) (hq) (p : (rows n w).Idx → Val .f32)
    (hp : ∀ (t : Fin n) (c : Fin w), p (ix2 t c) = G (ix3 ⟨k, hk⟩ t c)) :
    Filled M G (k + 1) ((slab (k := n) M ![k, 0, 0] inb hr hq).write Val f p Finset.univ) := by
  intro b t c hb
  by_cases e : b.val = k
  · have hz : (0 : ℕ) + n ≤ n := by omega
    have r := read_rows M k 0 inb hr hq hk hz
      ((slab (k := n) M ![k, 0, 0] inb hr hq).write Val f p Finset.univ) t c
    rw [View.read_write_univ, hp] at r
    have hb' : b = ⟨k, hk⟩ := Fin.ext e
    subst hb'
    rw [r]
    congr 2
    exact Fin.ext (Nat.zero_add _).symm
  · rw [read_write_other M k 0 inb hr hq hk (by omega) f p b e]
    exact h b t c (by omega)

/-- Rows `o …` of one image of a filled stack are the wanted ones. -/
theorem Filled.read_rows {M : Memref sig κ sp (stack d n w) .f32} {G : (stack d n w).Idx → Val .f32} {f : M.view.ty.Contents Val}
    (h : Filled M G d f) (b o : ℕ) (hb : b < d) (ho : o + k ≤ n) (inb) (hr) (hq) (i : Fin k) (j : Fin w) :
    (slab (k := k) M ![b, o, 0] inb hr hq).read Val f (ix2 i j) = rowsFrom o ho G (ix3 ⟨b, hb⟩ i j) := by
  rw [Slab.read_rows M b o inb hr hq hb ho]
  exact h _ _ _ hb

/-- All images filled: the stack is `G`. -/
theorem Filled.eq {M : Memref sig κ sp (stack d n w) .f32} {G : (stack d n w).Idx → Val .f32} {f : M.view.ty.Contents Val}
    (h : Filled M G d f) : M.view.read Val f = G := by
  funext x
  obtain ⟨b, t, c, rfl⟩ : ∃ (b : Fin d) (t : Fin n) (c : Fin w), x = ix3 b t c := ⟨x 0, x 1, x 2, ValueIdx.eq_ix3 x⟩
  exact h b t c b.isLt

end Cert.Slab

end
-- ==== Proof.Body.lean ====
/-
  The kernel of the idealised program, run once. Its body copies image `b` of the operand (for `b = 0, …, 7`, all eight
  copies started first) into image `b` of a scratch stack, and, as each arrives, copies the image's rows 0 to 511 to the
  first result and its rows 512 to 1023 to the second, every copy on a semaphore of its own. The executor runs it; what
  is proved by hand is what the two results then hold (`kernelRun`, over Slab.lean), and the launch around it with the
  host lines before and after (`run_main`).
-/
module

public import proofs.«01_k».proof.Proof.Gen.KernelIdeal.Frame
public import proofs.«01_k».proof.Proof.Gen.KernelIdeal.Skeleton
public import proofs.«01_k».proof.Proof.Slab
public import Idealize.ShloMosaic.Lib.Pipeline.FrameSuffixV
public import Idealize.ShloMosaic.Lib.StableHlo.Run
public import Idealize.ShloMosaic.Lib.Tactic
public import Idealize.ShloMosaic.Lib.Transfers

@[expose] public section

noncomputable section

namespace Cert.KernelIdeal.Hand

open Cert.KernelIdeal Cert.KernelIdeal.Gen Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## The operands -/

/-- The operand left in HBM, the two results written there, the scratch stack. -/
abbrev mY : Memref sig .tc .hbm S8x1024x768 .f32 := Memref.whole main_v1
abbrev mO1 : Memref sig .tc .hbm S8x512x768 .f32 := Memref.whole main_v2_0
abbrev mO2 : Memref sig .tc .hbm S8x512x768 .f32 := Memref.whole main_v2_1
abbrev mS : Memref sig .tc .vmem S8x1024x768 .f32 := Memref.whole cc0_scratch0

/-- A memref's buffer on core `c`: its contents, and it held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own semaphores: eight for the copies in, sixteen for the copies out, the pool's 0 to 23. -/
abbrev osem0 : Fin 24 → SemLoc sig := fun j => SemLoc.dma ⟨j.val, j.isLt⟩
theorem ownSemFacts0 : Pipeline.OwnSemFacts (cfg0.spec) osem0 := by decide

/-- Their counters at zero. -/
abbrev sems0 (c : Dev nD) : sProp 𝕄 :=
  iprop(semVal ((c : Thread nD τ), SemLoc.dma 0) 0 ∗ semVal ((c : Thread nD τ), SemLoc.dma 1) 0 ∗ semVal ((c : Thread nD τ), SemLoc.dma 2) 0
    ∗ semVal ((c : Thread nD τ), SemLoc.dma 3) 0 ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0 ∗ semVal ((c : Thread nD τ), SemLoc.dma 19) 0 ∗ semVal ((c : Thread nD τ), SemLoc.dma 20) 0
    ∗ semVal ((c : Thread nD τ), SemLoc.dma 21) 0 ∗ semVal ((c : Thread nD τ), SemLoc.dma 22) 0 ∗ semVal ((c : Thread nD τ), SemLoc.dma 23) 0)

theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 (List.finRange 24) (by decide) (by decide)]; rfl

/-! ## The body, run once -/

/-- What the two results hold at the end: rows 0 to 511, rows 512 to 1023, of every image of the operand. -/
abbrev out1 (c : Dev nD) (y : Bf (F := F) c mY) : Bf (F := F) c mO1 :=
  rowsFrom (d := 8) (n := 1024) (w := 768) (k := 512) 0 (by decide) y
abbrev out2 (c : Dev nD) (y : Bf (F := F) c mY) : Bf (F := F) c mO2 :=
  rowsFrom (d := 8) (n := 1024) (w := 768) (k := 512) 512 (by decide) y

/-- The kernel from its operand held whole at `y`, the results and the scratch at anything, the counters at zero: it runs
    to its return, the operand unchanged, the results holding `out1` and `out2`, the counters at zero again. -/
theorem kernelRun (c : Dev nD) (y : Bf (F := F) c mY) (f1 : Bf (F := F) c mO1) (f2 : Bf (F := F) c mO2) (fs : Bf (F := F) c mS)
    (W : Waits sig Unit) (Q : PUnit → sProp 𝕄) :
    iprop(pt c mY y ∗ pt c mO1 f1 ∗ pt c mO2 f2 ∗ pt c mS fs ∗ sems0 c ∗ owes (c : Thread nD τ) 0 W
      ∗ (iprop(pt c mY y ∗ (∃ f, ⌜Filled mO1 (out1 c y) 8 f⌝ ∗ pt c mO1 f) ∗ (∃ f, ⌜Filled mO2 (out2 c y) 8 f⌝ ∗ pt c mO2 f) ∗ (∃ f, pt c mS f) ∗ sems0 c
            ∗ ∃ W, owes (c : Thread nD τ) 0 W) -∗ Q ⟨⟩))
    ⊢ wp frame (wpE (defs₀ (F := F)) Variants.none c none) Set.univ
        (cc0__split_body mY (Memref.isWhole_whole _) mO1 (Memref.isWhole_whole _) mO2 (Memref.isWhole_whole _) mS (Memref.isWhole_whole _) cc0_scratch1 cc0_scratch2) Q := by
  iintro ⟨HY, H1, H2, HS, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, HO, Hk⟩
  simp only [cc0__split_body_eq_skeleton]; unfold cc0__split_body_skel
  set_option sl_exec.dmaWindow true in
  sl_exec_parts
  sl_step
  iapply Hk
  isplitl [HY]; · iexact HY
  isplitl [H1]
  · iexists _; isplitr; swap; · iexact H1
    ipureintro
    iterate 8
      refine Filled.step (by decide) ?_ _ _ _ _ ?_
      rotate_left
      · intro t c'
        refine Filled.read_rows (M := mS) (G := y) ?_ _ _ _ _ _ _ _ t c'
        iterate 8
          refine Filled.step (by decide) ?_ _ _ _ _ ?_
          rotate_left
          · intro t c'; exact read_image mY _ _ _ _ _ y t c'
        exact filled_zero _ _ _
    exact filled_zero _ _ _
  isplitl [H2]
  · iexists _; isplitr; swap; · iexact H2
    ipureintro
    iterate 8
      refine Filled.step (by decide) ?_ _ _ _ _ ?_
      rotate_left
      · intro t c'
        refine Filled.read_rows (M := mS) (G := y) ?_ _ _ _ _ _ _ _ t c'
        iterate 8
          refine Filled.step (by decide) ?_ _ _ _ _ ?_
          rotate_left
          · intro t c'; exact read_image mY _ _ _ _ _ y t c'
        exact filled_zero _ _ _
    exact filled_zero _ _ _
  isplitl [HS]; · iexists _; iexact HS
  isplitr [HO]; swap; · iexists _; iexact HO
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  iexact Hq23

/-! ## The proof data and the body obligation -/

variable (m : (ℓ : Loc nD τ sig) → Buf (Elt F) ℓ) (ρ : Dev nD → PrngReg)

/-- The buffer the body reads in HBM, and the two it writes there. -/
def H0 : Finset (Ref sig .tc) := {main_v1}
def R0 : Finset (Ref sig .tc) := {main_v2_0, main_v2_1}
theorem H0_sub : H0 ⊆ Pipeline.restRefs sig (cfg0.spec) := by decide
theorem R0_sub : R0 ⊆ Pipeline.restRefs sig (cfg0.spec) \ H0 := by decide

/-- What the two results hold after the body. -/
def G (c : Dev nD) : (b : Ref sig .tc) → Buf (Elt F) ((c : Thread nD τ).loc b) :=
  Function.update (Function.update (V m c) main_v2_0 (out1 c (V m c main_v1))) main_v2_1 (out2 c (V m c main_v1))

theorem G_1 (c : Dev nD) : G m c main_v2_0 = out1 c (V m c main_v1) := by
  unfold G; rw [Function.update_of_ne (by decide), Function.update_self]
theorem G_2 (c : Dev nD) : G m c main_v2_1 = out2 c (V m c main_v1) := by
  unfold G; rw [Function.update_self]

/-- The region's invariant with the results at `X`, conjunct by conjunct. -/
theorem ΦDRV_eq (c : Dev nD) (X : (c : Dev nD) → (b : Ref sig .tc) → Buf (Elt F) ((c.tc : Thread nD τ).loc b)) :
    (Pipeline.ΦDRV osem0 (cfg0.spec) H0 R0 (V m) X c : sProp 𝕄)
      = iprop((∃ f, pt c mS f) ∗ sems0 c ∗ pt c mY (V m c main_v1) ∗ pt c mO1 (X c main_v2_0) ∗ pt c mO2 (X c main_v2_1)) := by
  unfold Pipeline.ΦDRV
  rw [scopedRest0_eq, ownSems00_eq, BI.bigSep_eq_bigSepL_of_eq (S := H0) [main_v1] (by decide) (by decide),
    BI.bigSep_eq_bigSepL_of_eq (S := R0) [main_v2_0, main_v2_1] (by decide) (by decide)]
  rfl

/-- The proof data: no window; the invariant with the results as the region finds them before the one point, at `G` after it. -/
def dats (_ : Fin 1) (c : Dev nD) : Dat τ (Elt F) Unit ℕ (Pipeline.UD sig nD τ) ℕ cfg0 c where
  A w := w.elim0
  after w _ := w.elim0
  Φ t := Pipeline.ΦDRV osem0 (cfg0.spec) H0 R0 (V m) (if t.val = 0 then V m else G m) c
  q w := w.elim0
  owed _ := 0

theorem Φ_castSucc (c : Dev nD) (t : Fin cfg0.N) :
    (dats m 0 c).Φ t.castSucc = Pipeline.ΦDRV osem0 (cfg0.spec) H0 R0 (V m) (V m) c := by
  rw [fin_N0 t]; rfl
theorem Φ_succ (c : Dev nD) (t : Fin cfg0.N) :
    (dats m 0 c).Φ t.succ = Pipeline.ΦDRV osem0 (cfg0.spec) H0 R0 (V m) (G m) c := by
  rw [fin_N0 t]; rfl

/-- What the body is called with at its one point and what it returns: the invariant and the core's `owes`; no window. -/
def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

/-- The body at its point: the invariant opened, `kernelRun`, the two results recognised as `G`'s, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Φ_castSucc, Φ_succ, ΦDRV_eq, ΦDRV_eq, G_1, G_2]
  unfold Dat.owesAt Pipeline.owesWithin
  rw [show (dats m 0 c).owed t.castSucc = 0 from rfl, show (dats m 0 c).owed t.succ = 0 from rfl]
  iintro ⟨⟨⟨%fs, HS⟩, Hq, HY, H1, H2⟩, ⟨%W, %hW, HO⟩, He⟩
  iapply (kernelRun c (V m c main_v1) (V m c main_v2_0) (V m c main_v2_1) fs W _)
  isplitl [HY]; · iexact HY
  isplitl [H1]; · iexact H1
  isplitl [H2]; · iexact H2
  isplitl [HS]; · iexact HS
  isplitl [Hq]; · iexact Hq
  isplitl [HO]; · iexact HO
  iintro ⟨HY, ⟨%g1, %h1, H1⟩, ⟨%g2, %h2, H2⟩, HS, Hq, ⟨%W', HO⟩⟩
  obtain rfl : g1 = out1 c (V m c main_v1) := h1.eq
  obtain rfl : g2 = out2 c (V m c main_v1) := h2.eq
  isplitl [HS Hq HY H1 H2]
  · isplitl [HS]; · iexact HS
    isplitl [Hq]; · iexact Hq
    isplitl [HY]; · iexact HY
    isplitl [H1]; · iexact H1
    iexact H2
  isplitl [HO]
  · iexists W'; isplitr; · ipureintro; exact fun _ _ => Or.inl trivial
    iexact HO
  iexact He

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, from the triple. -/
theorem body_obligation (c : Dev nD) :
    BodyObligation (dats (F := F) m 0 c) (defs₀ (F := F)) Variants.none () Set.univ := fun t => by
  rw [defs₀_row]
  exact triple_restated (sound_body m c t) rfl (by rw [Finset.univ_eq_empty, BI.bigSep_empty]; exact .rfl)
    fun _ => by rw [Finset.univ_eq_empty, BI.bigSep_empty]; exact .rfl

/-! ## The launch -/

theorem hmainD (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- With no window, no array is overwritten by the pipeline. -/
theorem withArrays_nil (c : Dev nD) (X : Valuation τ sig (Elt F))
    (A : (w : Fin 0) → Buf (Elt F) (((cfg0.spec) w).arr.view.loc (c.tc : Thread nD τ))) : Pipeline.withArrays (cfg0.spec) c X A = X := by
  funext b; unfold Pipeline.withArrays; exact dif_neg fun ⟨w, _⟩ => w.elim0

/-- The contents every buffer ends with: the host lines after the region, over the region's results. -/
def fin (c : Dev nD) : Valuation τ sig (Elt F) :=
  StableHlo.after hostOps1 (Pipeline.withR (V0 m c) R0 c (G m c))

set_option backward.isDefEq.respectTransparency.types false in
theorem run_main :
    θ_run defs (onTc (τ := τ) (main (F := F))) (s₀ m ρ)
      (fun r => (∀ c : Dev nD, ∀ b ∈ Pipeline.restRefs sig (cfg0.spec), r.2.mem ((c : Thread nD τ).loc b) = fin m c (Proc.devRef .tc b))
        ∧ r.2.sem = fun _ => 0) :=
  Pipeline.θ_run_frame_dmaR_aroundV (Q' := _) cfgs (dats m) (0 : Fin 1) launch0 osem0 defs₀ Variants.none ownSemFacts0 H0 R0 H0_sub R0_sub
    m ρ main (hbody := fun c => (body_obligation m c).loose) (hshare := fun _ w => w.elim0) (howed := fun _ _ => rfl) (V₀ := V0 m) (opss := [hostOps1])
    (hsub := sfx_sub) (hfresh := sfx_fresh) (hkeep := sfx_keeps) (G := G m) (hmain := hmainD m Variants.none) (hA := fun _ w => w.elim0)
    (hin := fun _ => .rfl) (hout := fun _ => .rfl) (hQ' := fun r h => ⟨fun c b hb => ((h.1 c).2 b hb).trans (congrArg (fun X => StableHlo.after hostOps1 X (Proc.devRef .tc b)) (withArrays_nil c _ _)), h.2⟩)

/-! ## What the launch leaves -/

/-- The first host lines: the operand of the kernel is the argument with its pixels in rows and its channels in columns. -/
theorem V_main_v1 (c : Dev nD) : V m c main_v1
    = shapeCast S8x1024x768 (transpose S8x32x32x768 [0, 2, 3, 1] (m ((c : Thread nD τ).loc main_arg0)) transposes_S8x768x32x32_S8x32x32x768_0_2_3_1)
        shapeCasts_S8x32x32x768_S8x1024x768 := by
  show StableHlo.after hostOps0 (fun b => m (c, b)) (Proc.devRef .tc main_v1) = _
  after_results_simp; rfl

/-- The last host lines: each result of the kernel with its channels moved to the front again. -/
theorem fin_main_v4 (c : Dev nD) : fin m c (Proc.devRef .tc main_v4)
    = transpose S8x768x32x16 [0, 3, 1, 2] (shapeCast S8x32x16x768 (out1 c (V m c main_v1)) shapeCasts_S8x512x768_S8x32x16x768)
        transposes_S8x32x16x768_S8x768x32x16_0_3_1_2 := by
  unfold fin
  after_results_simp
  rw [Pipeline.withR_of_mem _ _ _ _ main_v2_0 (by decide), G_1]; rfl
theorem fin_main_v6 (c : Dev nD) : fin m c (Proc.devRef .tc main_v6)
    = transpose S8x768x32x16 [0, 3, 1, 2] (shapeCast S8x32x16x768 (out2 c (V m c main_v1)) shapeCasts_S8x512x768_S8x32x16x768)
        transposes_S8x32x16x768_S8x768x32x16_0_3_1_2 := by
  unfold fin
  after_results_simp
  rw [Pipeline.withR_of_mem _ _ _ _ main_v2_1 (by decide), G_2]; rfl
theorem fin_main_arg0 (c : Dev nD) : fin m c (Proc.devRef .tc main_arg0) = m ((c : Thread nD τ).loc main_arg0) := by
  unfold fin
  after_results_simp
  rw [Pipeline.withR_of_not_mem _ _ _ _ main_arg0 (by decide)]
  exact V_main_arg0 m c

/-- The frame: the argument ends as launched, every counter at zero. -/
theorem run_frame :
    θ_run defs (onTc (τ := τ) (main (F := F))) (s₀ m ρ)
      (fun r => (∀ c : Dev nD, r.2.mem ((c : Thread nD τ).loc main_arg0) = m ((c : Thread nD τ).loc main_arg0)) ∧ r.2.sem = fun _ => 0) :=
  (θ_run defs _ _).mono (fun _ h => ⟨fun c => (h.1 c main_arg0 (Pipeline.mem_restRefs_of main_arg0 (by decide) (by decide))).trans (fin_main_arg0 m c), h.2⟩)
    (run_main m ρ)

/-- The values: the two results as `fin` reads them, the argument as launched. -/
theorem run_values :
    θ_run defs (onTc (τ := τ) (main (F := F))) (s₀ m ρ)
      (fun r => ∀ c : Dev nD, r.2.mem ((c : Thread nD τ).loc main_v4) = fin m c (Proc.devRef .tc main_v4)
        ∧ r.2.mem ((c : Thread nD τ).loc main_v6) = fin m c (Proc.devRef .tc main_v6)
        ∧ r.2.mem ((c : Thread nD τ).loc main_arg0) = m ((c : Thread nD τ).loc main_arg0)) :=
  (θ_run defs _ _).mono (fun _ h c => ⟨h.1 c main_v4 (Pipeline.mem_restRefs_of main_v4 (by decide) (by decide)),
      h.1 c main_v6 (Pipeline.mem_restRefs_of main_v6 (by decide) (by decide)),
      (h.1 c main_arg0 (Pipeline.mem_restRefs_of main_arg0 (by decide) (by decide))).trans (fin_main_arg0 m c)⟩)
    (run_main m ρ)

end Cert.KernelIdeal.Hand

end
-- ==== Proof.Half.lean ====
/-
  The two results as functions of the argument: an image's 1024 pixels, in order, cut into the first 512 and the last
  512, each half laid out again as 32 rows of 16.
-/
module

public import Idealize.ShloMosaic.Lib.ValueIdx

@[expose] public section

noncomputable section

namespace Cert.Half

open Idealize.ShloMosaic

/-- The shapes of the argument and of a result. -/
abbrev whole : Shape := ⟨4, ![8, 768, 32, 32]⟩
abbrev part : Shape := ⟨4, ![8, 768, 32, 16]⟩

/-- The argument at pixel `q` of an image. -/
def at_ {α : Type} (x : whole.Idx → α) (b : Fin 8) (c : Fin 768) (q : Fin 1024) : α :=
  x (ValueIdx.ix4 b c ⟨q.val / 32, by have := q.isLt; omega⟩ ⟨q.val % 32, Nat.mod_lt _ (by decide)⟩)

/-- The place of row `h`, column `w` of a half image, among the half's pixels. -/
def place (h : Fin 32) (w : Fin 16) : Fin 512 := ⟨h.val * 16 + w.val, by have := h.isLt; have := w.isLt; omega⟩

/-- Pixel `o + p`. -/
def from_ (o : ℕ) (ho : o + 512 ≤ 1024) (p : Fin 512) : Fin 1024 := ⟨o + p.val, by have := p.isLt; omega⟩

/-- Pixels `o, …, o + 511` of every image, as 32 rows of 16. -/
def half {α : Type} (o : ℕ) (ho : o + 512 ≤ 1024) (x : whole.Idx → α) : part.Idx → α :=
  fun i => at_ x (i 0) (i 1) (from_ o ho (place (i 2) (i 3)))

end Cert.Half

end
-- ==== Proof.KernelValue.lean ====
/-
  The kernel's two results: the two halves of the argument. The channels go last and come back first, the copies take
  the first and the last 512 pixels in between.
-/
module

public import proofs.«01_k».proof.Proof.Half
public import proofs.«01_k».proof.Proof.Body
public import Idealize.ShloMosaic.Lib.Pipeline.Value

@[expose] public section

noncomputable section

namespace Cert.KernelValue

open Cert.KernelIdeal Cert.KernelIdeal.Gen Idealize.ShloMosaic Idealize.ShloMosaic.TcCoe
open Cert.Half

variable {F : FTy → Type} [FloatOps F]

/-- The operand of the copies: pixels in rows, channels in columns. -/
theorem operand_apply {α : Type} (x : S8x768x32x32.Idx → α) (h₁ : S8x768x32x32.Transposes [0, 2, 3, 1] S8x32x32x768)
    (h₂ : S8x32x32x768.ShapeCasts S8x1024x768) (b : Fin 8) (q : Fin 1024) (c : Fin 768) :
    shapeCast S8x1024x768 (transpose S8x32x32x768 [0, 2, 3, 1] x h₁) h₂ (ValueIdx.ix3 b q c) = at_ x b c q := by
  have hq := q.isLt
  refine (shapeCast_apply _ h₂ _ (ValueIdx.ix4 b (⟨q.val / 32, by omega⟩ : Fin 32)
    (⟨q.val % 32, Nat.mod_lt _ (by decide)⟩ : Fin 32) c) ?_).trans ?_
  · rw [Shape.rowMajor_val_three, Shape.rowMajor_val_four]
    show ((b.val * 32 + q.val / 32) * 32 + q.val % 32) * 768 + c.val = (b.val * 1024 + q.val) * 768 + c.val
    omega
  · exact transpose_apply _ x h₁ _ _ fun a => match a with
      | ⟨0, _⟩ => rfl
      | ⟨1, _⟩ => rfl
      | ⟨2, _⟩ => rfl
      | ⟨3, _⟩ => rfl

/-- A stack of 512 pixels in rows, as half images with their channels first. -/
theorem result_apply {α : Type} (y : S8x512x768.Idx → α) (h₁ : S8x512x768.ShapeCasts S8x32x16x768)
    (h₂ : S8x32x16x768.Transposes [0, 3, 1, 2] S8x768x32x16) (b : Fin 8) (c : Fin 768) (h : Fin 32) (w : Fin 16) :
    transpose S8x768x32x16 [0, 3, 1, 2] (shapeCast S8x32x16x768 y h₁) h₂ (ValueIdx.ix4 b c h w)
      = y (ValueIdx.ix3 b (place h w) c) := by
  refine (transpose_apply _ _ h₂ _ (ValueIdx.ix4 b h w c) fun a => match a with
      | ⟨0, _⟩ => rfl
      | ⟨1, _⟩ => rfl
      | ⟨2, _⟩ => rfl
      | ⟨3, _⟩ => rfl).trans ?_
  refine shapeCast_apply _ h₁ _ _ ?_
  rw [Shape.rowMajor_val_three, Shape.rowMajor_val_four]
  show (b.val * 512 + (h.val * 16 + w.val)) * 768 + c.val = ((b.val * 32 + h.val) * 16 + w.val) * 768 + c.val
  omega

/-- There and back, through the rows `o, …, o + 511`: that half. -/
theorem rows_half {α : Type} (x : S8x768x32x32.Idx → α) (o : ℕ) (ho : o + 512 ≤ 1024) (h₁) (h₂) (h₃) (h₄) :
    transpose S8x768x32x16 [0, 3, 1, 2] (shapeCast S8x32x16x768
        (Slab.rowsFrom (d := 8) (n := 1024) (w := 768) (k := 512) o ho
          (shapeCast S8x1024x768 (transpose S8x32x32x768 [0, 2, 3, 1] x h₁) h₂)) h₃) h₄ = half o ho x := by
  funext i
  obtain ⟨b, c, h, w, rfl⟩ : ∃ (b : Fin 8) (c : Fin 768) (h : Fin 32) (w : Fin 16), i = ValueIdx.ix4 b c h w :=
    ⟨i 0, i 1, i 2, i 3, ValueIdx.eq_ix4 i⟩
  rw [result_apply]
  exact operand_apply x h₁ h₂ b (from_ o ho (place h w)) c

/-- The kernel's first result is the first half. -/
theorem first (m : (ℓ : Loc nD τ sig) → Buf (Elt F) ℓ) (c : Dev nD) :
    Hand.fin m c (Proc.devRef .tc main_v4) = half 0 (by decide) (m ((c : Thread nD τ).loc main_arg0)) := by
  rw [Hand.fin_main_v4, Hand.V_main_v1]
  exact rows_half _ 0 _ _ _ _ _

/-- The second is the second half. -/
theorem second (m : (ℓ : Loc nD τ sig) → Buf (Elt F) ℓ) (c : Dev nD) :
    Hand.fin m c (Proc.devRef .tc main_v6) = half 512 (by decide) (m ((c : Thread nD τ).loc main_arg0)) := by
  rw [Hand.fin_main_v6, Hand.V_main_v1]
  exact rows_half _ 512 _ _ _ _ _

end Cert.KernelValue

end
-- ==== Proof.Steps.lean ====
/-
  The reference's two results as a composition of its steps, each step a function of its own: the weights of the
  pixels, the indices of the 512 greatest, the indices left over, and the reading of the pixels at a table of indices.
-/
module

public import proofs.«01_k».proof.Proof.Gen.ReferenceIdeal.Run

@[expose] public section

noncomputable section

namespace Cert.Steps

open Cert.ReferenceIdeal Cert.ReferenceIdeal.Gen Idealize.ShloMosaic Idealize.ShloMosaic.TcCoe

variable {F : FTy → Type} [FloatOps F]

/-- The images with their pixels in one axis. -/
def pixels (x : FVec F S8x768x32x32 .f32) : FVec F S8x768x1024 .f32 :=
  shapeCast _ x shapeCasts_S8x768x32x32_S8x768x1024

/-- The inner products of the pixels of each image. -/
def gram (f : FVec F S8x768x1024 .f32) : FVec F S8x1024x1024 .f32 :=
  Host.dotGeneral dot_S8x768x1024_S8x768x1024_S8x1024x1024_1_1_2_2_0_0 none f f

/-- One number per row, as a number for each entry of the row. -/
def spread (v : FVec F S8x1024 .f32) : FVec F S8x1024x1024 .f32 :=
  broadcastInDim S8x1024x1024 ![0, 1, 2] bcast_S8x1024x1_S8x1024x1024_0_1_2
    (broadcastInDim S8x1024x1 ![0, 1] bcast_S8x1024_S8x1024x1_0_1 v)

/-- The greatest entry of each row. -/
def rowMax (g : FVec F S8x1024x1024 .f32) : FVec F S8x1024 .f32 :=
  maximumf (broadcastInDim S8x1024 ![] bcast_S_S8x1024 (constant S_ .f32 0xFF800000#32))
    (Host.reduce FloatOps.maximumf g (constant S_ .f32 0xFF800000#32) reducesTo_S8x1024x1024_S8x1024_d2 h_S_)

/-- The sum of each row. -/
def rowSum (g : FVec F S8x1024x1024 .f32) : FVec F S8x1024 .f32 :=
  Host.reduceAdd g (constant S_ .f32 0x00000000#32) reducesTo_S8x1024x1024_S8x1024_d2 h_S_

/-- The exponentials of the entries less their row's greatest. -/
def exps (g : FVec F S8x1024x1024 .f32) : FVec F S8x1024x1024 .f32 := Host.exp (subf g (spread (rowMax g)))

/-- The softmax along the rows. -/
def softmax (g : FVec F S8x1024x1024 .f32) : FVec F S8x1024x1024 .f32 := Host.divf (exps g) (spread (rowSum (exps g)))

/-- The weight of each pixel: the mean of its softmax row. -/
def weights (g : FVec F S8x1024x1024 .f32) : FVec F S8x1024 .f32 :=
  Host.divf (rowSum (softmax g)) (broadcastInDim S8x1024 ![] bcast_S_S8x1024 (constant S_ .f32 0x44800000#32))

/-- The indices of the 512 greatest weights. -/
def picks (v : FVec F S8x1024 .f32) : IVec S8x512 32 :=
  (Host.topK S8x512 1 (FloatOps.cmpfTotal .gt) v sliceFits_S8x1024_S8x512).2

/-- A table of indices, the same for every channel. -/
def perChannel (idx : IVec S8x512 32) : IVec S8x768x512 32 :=
  broadcastInDim S8x768x512 ![0, 1, 2] bcast_S8x1x512_S8x768x512_0_1_2
    (broadcastInDim S8x1x512 ![0, 2] bcast_S8x512_S8x1x512_0_2 idx)

/-- The same with 1024 added to the negative ones, and a trailing axis of length one. -/
def wrapped (idx : IVec S8x768x512 32) : IVec S8x768x512x1 32 :=
  shapeCast _ (select (cmpi .slt idx (broadcastInDim S8x768x512 ![] bcast_S_S8x768x512 (constantI S_ 32 0#32)))
    (addi idx (broadcastInDim S8x768x512 ![] bcast_S_S8x768x512 (constantI S_ 32 1024#32))) idx)
    shapeCasts_S8x768x512_S8x768x512x1

/-- Whether each index names a pixel. -/
def inRange (i : IVec S8x768x512x1 32) : IVec S8x768x512 1 :=
  Host.reduce IntOp.andi
    (andi (cmpi .sge i (broadcastInDim S8x768x512x1 ![] bcast_S_S8x768x512x1 (constantI S_ 32 0#32)))
      (cmpi .sle i (broadcastInDim S8x768x512x1 ![0, 1, 2, 3] bcast_S1x1x1x1_S8x768x512x1_0_1_2_3
        (broadcastInDim S1x1x1x1 ![3] bcast_S1_S1x1x1x1_3 (constantI S1 32 1023#32)))))
    (constantI S_ 1 1#1) reducesTo_S8x768x512x1_S8x768x512_d3 h_S_

/-- The pixels at a table of indices. -/
def take (f : FVec F S8x768x1024 .f32) (idx : IVec S8x768x512 32) : FVec F S8x768x512 .f32 :=
  select (inRange (wrapped idx))
    (Host.gather gather_S8x768x1024_S8x768x512x1_S8x768x512_n_2_01_01_2_3_111 f (wrapped idx))
    (broadcastInDim S8x768x512 ![] bcast_S_S8x768x512 (constant S_ .f32 0x7FC00000#32))

/-- The number of each image, one column. -/
def imageWord : IVec S8x1 32 :=
  select (cmpi .slt (broadcastInDim S8x1 ![0] bcast_S8_S8x1_0 (iotaInDim S8 32 0))
      (broadcastInDim S8x1 ![] bcast_S_S8x1 (constantI S_ 32 0#32)))
    (addi (broadcastInDim S8x1 ![0] bcast_S8_S8x1_0 (iotaInDim S8 32 0))
      (broadcastInDim S8x1 ![] bcast_S_S8x1 (constantI S_ 32 8#32)))
    (broadcastInDim S8x1 ![0] bcast_S8_S8x1_0 (iotaInDim S8 32 0))

/-- The image's number beside each index of its row. -/
def imageWords : IVec S8x512x1 32 :=
  broadcastInDim S8x512x1 ![0, 1] bcast_S8x512_S8x512x1_0_1 (broadcastInDim S8x512 ![0, 1] bcast_S8x1_S8x512_0_1 imageWord)

/-- The indices with 1024 added to the negative ones, as a column of words. -/
def pixelWords (idx : IVec S8x512 32) : IVec S8x512x1 32 :=
  broadcastInDim S8x512x1 ![0, 1] bcast_S8x512_S8x512x1_0_1
    (select (cmpi .slt idx (broadcastInDim S8x512 ![] bcast_S_S8x512 (constantI S_ 32 0#32)))
      (addi idx (broadcastInDim S8x512 ![] bcast_S_S8x512 (constantI S_ 32 1024#32))) idx)

/-- The pairs (image, pixel) of the picked pixels. -/
def pairs (idx : IVec S8x512 32) : IVec S8x512x2 32 :=
  concatenate S8x512x2 2 [⟨S8x512x1, imageWords⟩, ⟨S8x512x1, pixelWords idx⟩]
    concatenates_S8x512x1_S8x512x1_S8x512x2_d2

/-- The pixels that were not picked: one everywhere, then zero at the picked ones. -/
def unpicked (idx : IVec S8x512 32) : IVec S8x1024 1 :=
  Host.scatter scatter_S8x1024_S8x512x2_S8x512_n_01_01_2 (fun _ b => b)
    (broadcastInDim S8x1024 ![] bcast_S_S8x1024 (constantI S_ 1 1#1)) (pairs idx)
    (broadcastInDim S8x512 ![] bcast_S_S8x512 (constantI S_ 1 0#1))

/-- The number of each pixel, one row. -/
def pixelRow : IVec S1x1024 32 := broadcastInDim S1x1024 ![1] bcast_S1024_S1x1024_1 (iotaInDim S1024 32 0)

/-- The key each pixel is sorted by: its number, with 1024 added where it was picked. -/
def keys (mask : IVec S8x1024 1) : IVec S8x1024 32 :=
  select mask (broadcastInDim S8x1024 ![0, 1] bcast_S1x1024_S8x1024_0_1 pixelRow)
    (broadcastInDim S8x1024 ![0, 1] bcast_S1x1024_S8x1024_0_1
      (addi (broadcastInDim S1x1024 ![] bcast_S_S1x1024 (constantI S_ 32 1024#32)) pixelRow))

/-- The 512 least keys, in order: the numbers of the pixels left over. -/
def rest (mask : IVec S8x1024 1) : IVec S8x512 32 :=
  extractStridedSlice S8x512 ![0, 0] (Host.sort S8x1024 1 comparator_i32_d1 (keys mask)) slices_S8x1024_S8x512_0_0

/-- The taken pixels as half-width images. -/
def images (v : FVec F S8x768x512 .f32) : FVec F S8x768x32x16 .f32 :=
  shapeCast _ v shapeCasts_S8x768x512_S8x768x32x16

/-- The picks of the input's weights. -/
def chosen (x : FVec F S8x768x32x32 .f32) : IVec S8x512 32 := picks (weights (gram (pixels x)))

/-- The reference's first result. -/
theorem res0_eq (m : (ℓ : Loc nD τ sig) → Buf (Elt F) ℓ) (c : Dev nD) :
    Cert.ReferenceIdeal.Value.res_main_v49 m c
      = images (take (pixels (m ((c.tc : Thread nD τ).loc main_arg0)))
          (perChannel (chosen (m ((c.tc : Thread nD τ).loc main_arg0))))) := by
  unfold Cert.ReferenceIdeal.Value.res_main_v49
  rfl

/-- The reference's second result. -/
theorem res1_eq (m : (ℓ : Loc nD τ sig) → Buf (Elt F) ℓ) (c : Dev nD) :
    Cert.ReferenceIdeal.Value.res_main_v50 m c
      = images (take (pixels (m ((c.tc : Thread nD τ).loc main_arg0)))
          (perChannel (rest (unpicked (chosen (m ((c.tc : Thread nD τ).loc main_arg0))))))) := by
  unfold Cert.ReferenceIdeal.Value.res_main_v50
  rfl

end Cert.Steps

end
-- ==== Proof.Ties.lean ====
/-
  The stable sort in the two cases the reference meets: no position sorts before another (every weight equal), where it
  leaves the positions as they are; and a known strict order of the positions, where it lists them in that order. Then
  what follows for the `k` greatest of a constant table: the indices `0, …, k - 1`.
-/
module

public import Idealize.ShloMosaic.Lib.ValueIdx
public import Idealize.ShloMosaic.Lib.SortFacts
public import Idealize.ShloMosaic.Lib.Tactic

@[expose] public section

noncomputable section

namespace Cert.Ties

open Idealize.ShloMosaic
open Idealize.ShloMosaic.ValueIdx (ix2)

/-- Sorting where nothing goes before anything changes nothing. -/
theorem stableSort_none {ι : Type} (before : ι → ι → Bool) (hb : ∀ a b, before a b = false) (l : List ι) :
    stableSort before l = l := by
  induction l with
  | nil => rfl
  | cons a l ih =>
    rw [stableSort, ih]
    cases l with
    | nil => rfl
    | cons b l => rw [insertBefore, hb, if_neg Bool.false_ne_true]

/-- So each position's element stays where it is. -/
theorem sortedFrom_none {n : ℕ} (before : Fin n → Fin n → Bool) (hb : ∀ a b, before a b = false) (k : Fin n) :
    sortedFrom before k = k := by
  have e : sortPositions n before = List.finRange n := stableSort_none before hb _
  unfold sortedFrom
  apply Fin.ext
  simp [e]

/-- If `σ` lists the positions in the order `before` puts them, the sort is `σ`. -/
theorem sortedFrom_eq {n : ℕ} (before : Fin n → Fin n → Bool) (σ : Fin n → Fin n) (hσ : Function.Surjective σ)
    (hb : ∀ i j, before (σ i) (σ j) = decide (i < j)) : sortedFrom before = σ := by
  have hpre : ∀ k, ∃ i, σ i = sortedFrom before k := fun k => hσ _
  choose g hg using hpre
  have hmono : StrictMono g := by
    intro i j hij
    have h := sortedFrom_noInversion before before
      (fun a b => by
        obtain ⟨a, rfl⟩ := hσ a; obtain ⟨b, rfl⟩ := hσ b
        rw [hb, hb]; simp only [decide_eq_true_eq, decide_eq_false_iff_not]; omega)
      (fun _ _ h => h)
      (fun a b c => by
        obtain ⟨a, rfl⟩ := hσ a; obtain ⟨b, rfl⟩ := hσ b; obtain ⟨c, rfl⟩ := hσ c
        rw [hb, hb, hb]; simp only [decide_eq_false_iff_not]; omega)
      i j hij
    rw [← hg i, ← hg j, hb, decide_eq_false_iff_not] at h
    refine lt_of_le_of_ne (not_lt.mp h) fun e => ?_
    have := sortedFrom_injective before ((hg i).symm.trans ((congrArg σ e).trans (hg j)))
    omega
  funext k
  rw [← hg k, le_antisymm hmono.apply_le hmono.le_apply]

/-- The table's and the result's shapes. -/
abbrev tab (a b : ℕ) : Shape := ⟨2, ![a, b]⟩

/-- The `k` greatest entries of each row of a table whose entries do not go one before another: their indices are
    `0, …, k - 1`. -/
theorem topK_indices {α : Type} {d n k : ℕ} (gt : α → α → BitVec 1) (x : (tab d n).Idx → α)
    (hg : ∀ i j, gt (x i) (x j) = 0#1) (h : (tab d n).Slices (fun _ => 0) (tab d k)) (b : Fin d) (p : Fin k) :
    (Host.topK (tab d k) 1 gt x h).2 (ix2 b p) = BitVec.ofNat 32 p.val := by
  have hd : 1 < (tab d n).rank := by show 1 < 2; decide
  simp only [Host.topK, Host.sort2, dif_pos hd, extractStridedSlice]
  rw [sortedFrom_none _ (fun _ _ => by rw [hg]; rfl)]
  simp only [iotaInDim, Shape.Idx.along, Function.update_self]
  exact congrArg (BitVec.ofNat 32) (Nat.zero_add p.val)

end Cert.Ties

end
-- ==== Proof.Weights.lean ====
/-
  The weights over the extended reals. A softmax row of real scores sums to one, so every pixel's weight, the row's
  mean, is the same number 1/1024, whatever the scores.
-/
module

public import proofs.«01_k».proof.Proof.Gen.ReferenceIdeal
public import proofs.«01_k».proof.Proof.Steps
public import Idealize.ShloMosaic.Lib.ValueIdx
public import Idealize.ShloMosaic.Lib.IdealHost
public import Idealize.ShloMosaic.Lib.Pointwise.Reduce

@[expose] public section

noncomputable section

namespace Cert.Weights

open Cert.ReferenceIdeal Idealize.ShloMosaic
open Cert.Steps

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) (f : ι → EReal) (hf : ∀ i, IsReal (f i)) : IsReal (∑ i ∈ s, f i) := by
  classical
  induction s using Finset.induction_on with
  | empty => exact ⟨0, by simp⟩
  | insert a s ha ih => rw [Finset.sum_insert ha]; exact (hf a).add ih

/-- The sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Not infinite either way: the real numbers. -/
theorem isReal_of_ne {x : EReal} (h1 : x ≠ ⊥) (h2 : x ≠ ⊤) : IsReal x := ⟨x.toReal, (EReal.coe_toReal h2 h1).symm⟩

/-- The greatest of finitely many reals, at least one, started from `-∞`, is a real. -/
theorem isReal_fold_max {ι : Type} (s : Finset ι) (f : ι → EReal) (hf : ∀ i, IsReal (f i)) (hs : s.Nonempty) :
    IsReal (s.fold max ⊥ f) := by
  refine isReal_of_ne ?_ ?_
  · obtain ⟨i, hi⟩ := hs
    obtain ⟨r, hr⟩ := hf i
    have : f i ≤ s.fold max ⊥ f := Finset.le_fold_max _ |>.mpr (Or.inr ⟨i, hi, le_rfl⟩)
    intro h
    rw [h, hr, le_bot_iff] at this
    exact EReal.coe_ne_bot r this
  · refine ne_of_lt ((Finset.fold_max_lt _).mpr ⟨bot_lt_top, fun i _ => ?_⟩)
    obtain ⟨r, hr⟩ := hf i
    rw [hr]; exact EReal.coe_lt_top r

theorem negInf : Ideal.ofBits .f32 0xFF800000#32 = ⊥ := by simp [Ideal.ofBits, Ideal.ieee]

theorem posInf : Ideal.ofBits .f32 0x7F800000#32 = ⊤ := by simp [Ideal.ofBits, Ideal.ieee]

/-- One number per row, read at an entry. -/
theorem spread_apply (v : FVec Ideal S8x1024 .f32) (b : Fin 8) (i j : Fin 1024) :
    spread v (ValueIdx.ix3 b i j) = v (ValueIdx.ix2 b i) := by
  refine congrArg v (funext fun a => Fin.ext ?_)
  match a with
  | ⟨0, _⟩ => rfl
  | ⟨1, _⟩ => rfl

/-- The sum of a row, read at the row. -/
theorem rowSum_apply (g : FVec Ideal S8x1024x1024 .f32) (b : Fin 8) (i : Fin 1024) :
    rowSum g (ValueIdx.ix2 b i) = ∑ j : Fin 1024, g (ValueIdx.ix3 b i j) := by
  unfold rowSum
  rw [ValueIdx.hostReduceAdd_apply, Ideal.hostReduceAdd_r3_a2]
  show Ideal.ofBits .f32 0x00000000#32 + _ = _
  rw [Ideal.ofBits_zero_f32, zero_add]
  rfl

/-- A maximum over some axes of an array of reals, started from `-∞`, is a real wherever it ranges over something. -/
theorem reduce_max_isReal {s t u : Shape} {axes : List (Fin s.rank)} (g : FVec Ideal s .f32) (hg : ∀ i, IsReal (g i))
    (v : FVec Ideal u .f32) (h : s.ReducesTo axes t) (hu : 0 < u.numel) (hv : v (Shape.Idx.first hu) = ⊥) (j : t.Idx)
    (hj : ∃ i, h.drop i = j) : IsReal (Host.reduce (FloatOps.maximumf (F := Ideal) (φ := .f32)) g v h hu j) := by
  have hm : FloatOps.maximumf (F := Ideal) (φ := .f32) = (max : EReal → EReal → EReal) := by
    funext x y; exact Ideal.maximumf_def x y
  rw [hm, Host.reduce_eq_fold, hv]
  obtain ⟨i, hi⟩ := hj
  exact isReal_fold_max _ _ hg ⟨i, Finset.mem_filter.mpr ⟨Finset.mem_univ _, hi⟩⟩

/-- The greatest entry of a row of reals is a real. -/
theorem rowMax_isReal (g : FVec Ideal S8x1024x1024 .f32) (hg : ∀ i, IsReal (g i)) (b : Fin 8) (i : Fin 1024) :
    IsReal (rowMax g (ValueIdx.ix2 b i)) := by
  unfold rowMax
  rw [ValueIdx.maximumf_apply, ValueIdx.broadcastInDim_scalar_apply, ValueIdx.constant_apply, negInf, max_eq_right bot_le]
  refine reduce_max_isReal g hg _ _ _ ?_ _ ⟨ValueIdx.ix3 b i 0, ?_⟩
  · exact (ValueIdx.constant_apply _ _).trans negInf
  · funext a; apply Fin.ext
    match a with
    | ⟨0, _⟩ => rfl
    | ⟨1, _⟩ => rfl

/-- The exponentials are positive reals. -/
theorem exps_pos (g : FVec Ideal S8x1024x1024 .f32) (hg : ∀ i, IsReal (g i)) (b : Fin 8) (i j : Fin 1024) :
    ∃ r : ℝ, 0 < r ∧ exps g (ValueIdx.ix3 b i j) = (r : EReal) := by
  have h : exps g (ValueIdx.ix3 b i j) = Ideal.exp (g (ValueIdx.ix3 b i j) - spread (rowMax g) (ValueIdx.ix3 b i j)) := rfl
  obtain ⟨a, ha⟩ := hg (ValueIdx.ix3 b i j)
  obtain ⟨c, hc⟩ := rowMax_isReal g hg b i
  rw [h, spread_apply, ha, hc, ← EReal.coe_sub, Ideal.exp_coe]
  exact ⟨_, Real.exp_pos _, rfl⟩

/-- A softmax row of real scores sums to one. -/
theorem softmax_sum (g : FVec Ideal S8x1024x1024 .f32) (hg : ∀ i, IsReal (g i)) (b : Fin 8) (i : Fin 1024) :
    rowSum (softmax g) (ValueIdx.ix2 b i) = 1 := by
  choose r hr0 hr using exps_pos g hg b i
  have hs : rowSum (exps g) (ValueIdx.ix2 b i) = ((∑ j, r j : ℝ) : EReal) := by
    rw [rowSum_apply, ← sum_coe]; exact Finset.sum_congr rfl fun j _ => hr j
  have hpos : 0 < ∑ j, r j := Finset.sum_pos (fun j _ => hr0 j) Finset.univ_nonempty
  have he : ∀ j, softmax g (ValueIdx.ix3 b i j) = ((r j * (1 / ∑ j, r j) : ℝ) : EReal) := by
    intro j
    have h : softmax g (ValueIdx.ix3 b i j) = Ideal.div (exps g (ValueIdx.ix3 b i j)) (spread (rowSum (exps g)) (ValueIdx.ix3 b i j)) := rfl
    rw [h, spread_apply, hs, hr, Ideal.div_coe hpos.ne', EReal.coe_mul]
  rw [rowSum_apply, Finset.sum_congr rfl fun j _ => he j, sum_coe, ← Finset.sum_mul, mul_one_div_cancel hpos.ne']
  rfl

/-- Every pixel has the same weight. -/
theorem weights_eq (g : FVec Ideal S8x1024x1024 .f32) (hg : ∀ i, IsReal (g i)) :
    weights g = fun _ => Ideal.div 1 (Ideal.ofBits .f32 0x44800000#32) := by
  funext x
  obtain ⟨b, i, rfl⟩ : ∃ (b : Fin 8) (i : Fin 1024), x = ValueIdx.ix2 b i := ⟨x 0, x 1, ValueIdx.eq_ix2 x⟩
  have h : weights g (ValueIdx.ix2 b i) = Ideal.div (rowSum (softmax g) (ValueIdx.ix2 b i)) (Ideal.ofBits .f32 0x44800000#32) := rfl
  rw [h, softmax_sum g hg]

/-- The scores of real pixels are reals. -/
theorem gram_isReal (f : FVec Ideal S8x768x1024 .f32) (hf : ∀ i, IsReal (f i)) (j : S8x1024x1024.Idx) :
    IsReal (gram f j) := by
  unfold gram
  simp only [Host.dotGeneral]
  rw [Ideal.dotGeneral_apply]
  exact IsReal.sum _ _ fun k => (hf _).mul (hf _)

end Cert.Weights

end
-- ==== Proof.Take.lean ====
/-
  Reading the pixels at a table of indices that name pixels: what is taken at place `p` of the table is the pixel its
  index names. (An index that names none would be wrapped once, and read a filler after that; neither happens here.)
-/
module

public import proofs.«01_k».proof.Proof.Steps
public import Idealize.ShloMosaic.Lib.ValueIdx
public import Idealize.ShloMosaic.Lib.ValueLayout
public import Idealize.ShloMosaic.Lib.WordCmp
public import Idealize.ShloMosaic.Lib.Routing.OpsPair

@[expose] public section

noncomputable section

namespace Cert.Take

open Cert.ReferenceIdeal Idealize.ShloMosaic
open Cert.Steps

variable {F : FTy → Type} [FloatOps F]

/-- An `and` over some axes, of ones, is one. -/
theorem reduce_andi_ones {s t u : Shape} {axes : List (Fin s.rank)} (x : IVec s 1) (v : IVec u 1) (h : s.ReducesTo axes t)
    (hu : 0 < u.numel) (hv : v (Shape.Idx.first hu) = 1#1) (hx : ∀ i, x i = 1#1) (j : t.Idx) :
    Host.reduce IntOp.andi x v h hu j = 1#1 := by
  rw [Host.reduce_eq_foldl, hv]
  generalize List.filter _ _ = l
  induction l with
  | nil => rfl
  | cons a l ih => rw [List.foldl_cons, hx, show IntOp.andi (1#1 : BitVec 1) 1#1 = 1#1 from rfl, ih]

/-- A table of indices the same for every channel, read at an entry. -/
theorem perChannel_apply (idx : IVec S8x512 32) (b : Fin 8) (c : Fin 768) (p : Fin 512) :
    perChannel idx (ValueIdx.ix3 b c p) = idx (ValueIdx.ix2 b p) := by
  refine congrArg idx (funext fun a => Fin.ext ?_)
  match a with
  | ⟨0, _⟩ => rfl
  | ⟨1, _⟩ => rfl

/-- An index that is not negative stays as it is. -/
theorem wrapped_apply (idx : IVec S8x768x512 32) (b : Fin 8) (c : Fin 768) (p : Fin 512) (z : Fin 1)
    (h : (idx (ValueIdx.ix3 b c p)).toNat < 2 ^ 31) :
    wrapped idx (ValueIdx.ix4 b c p z) = idx (ValueIdx.ix3 b c p) := by
  unfold wrapped
  rw [shapeCast_apply _ _ _ (ValueIdx.ix3 b c p) (by
    rw [Shape.rowMajor_val_three, Shape.rowMajor_val_four]
    show _ = ((b.val * 768 + c.val) * 512 + p.val) * 1 + z.val
    have : z.val = 0 := by omega
    rw [this]
    show (b.val * 768 + c.val) * 512 + p.val = _
    omega)]
  exact Routing.wrap_of_lt (w := 32) _ _ h

/-- Where every index names a pixel, the table is in range everywhere. -/
theorem inRange_eq (i : IVec S8x768x512x1 32) (h : ∀ j, (i j).toNat < 1024) (j : S8x768x512.Idx) : inRange i j = 1#1 := by
  unfold inRange
  refine reduce_andi_ones _ _ _ _ rfl (fun k => ?_) j
  have h1 : (i k).toInt = ((i k).toNat : Int) :=
    WordCmp.toInt_eq_toNat_of_lt_half (lt_trans (h k) (by decide))
  show IntOp.andi (BitVec.ofBool (decide ((0#32 : BitVec 32).toInt ≤ (i k).toInt)))
    (BitVec.ofBool (decide ((i k).toInt ≤ (1023#32 : BitVec 32).toInt))) = 1#1
  have e0 : (0#32 : BitVec 32).toInt = 0 := by decide
  have e1 : (1023#32 : BitVec 32).toInt = 1023 := by decide
  have := h k
  rw [h1, e0, e1, decide_eq_true (by omega), decide_eq_true (by omega)]
  rfl

/-- The gather reads the pixel the index names. -/
theorem gather_apply {α : Type} (f : S8x768x1024.Idx → α) (i : IVec S8x768x512x1 32) (b : Fin 8) (c : Fin 768)
    (p : Fin 512) (q : Fin 1024) (h : (i (ValueIdx.ix4 b c p 0)).toNat = q.val) :
    Host.gather gather_S8x768x1024_S8x768x512x1_S8x768x512_n_2_01_01_2_3_111 f i (ValueIdx.ix3 b c p)
      = f (ValueIdx.ix3 b c q) := by
  unfold Host.gather
  refine congrArg f (funext fun a => Fin.ext ?_)
  show GatherDims.start _ _ i a + GatherDims.batchCoord _ _ a + GatherDims.offCoord _ _ a = _
  match a with
  | ⟨0, _⟩ => exact Nat.zero_add b.val
  | ⟨1, _⟩ => exact Nat.zero_add c.val
  | ⟨2, _⟩ =>
    have hs : (gather_S8x768x1024_S8x768x512x1_S8x768x512_n_2_01_01_2_3_111).siIdx (ValueIdx.ix3 b c p)
        (⟨0, by decide⟩ : Fin 1) = ValueIdx.ix4 b c p 0 := by
      funext a; apply Fin.ext
      match a with
      | ⟨0, _⟩ => rfl
      | ⟨1, _⟩ => rfl
      | ⟨2, _⟩ => rfl
      | ⟨3, _⟩ => rfl
    have h1 : (i (ValueIdx.ix4 b c p 0)).toInt = ((i (ValueIdx.ix4 b c p 0)).toNat : Int) :=
      WordCmp.toInt_eq_toNat_of_lt_half (lt_trans (h ▸ q.isLt) (by decide))
    show min (i (GatherDims.siIdx _ (ValueIdx.ix3 b c p) _)).toInt.toNat 1023 + 0 + 0 = q.val
    refine (congrArg (fun k => min (i k).toInt.toNat 1023 + 0 + 0) hs).trans ?_
    have := q.isLt
    simp only [h1, h, Int.toNat_natCast]
    omega

/-- The pixels at a table of indices, read at an entry. -/
theorem take_apply (f : FVec F S8x768x1024 .f32) (idx : IVec S8x512 32) (h : ∀ j, (idx j).toNat < 1024) (b : Fin 8)
    (c : Fin 768) (p : Fin 512) (q : Fin 1024) (hq : (idx (ValueIdx.ix2 b p)).toNat = q.val) :
    take f (perChannel idx) (ValueIdx.ix3 b c p) = f (ValueIdx.ix3 b c q) := by
  have hw : ∀ (b : Fin 8) (c : Fin 768) (p : Fin 512) (z : Fin 1),
      wrapped (perChannel idx) (ValueIdx.ix4 b c p z) = idx (ValueIdx.ix2 b p) := fun b c p z => by
    rw [wrapped_apply _ _ _ _ _ (by rw [perChannel_apply]; exact lt_trans (h _) (by decide)), perChannel_apply]
  have hr : inRange (wrapped (perChannel idx)) (ValueIdx.ix3 b c p) = 1#1 := by
    refine inRange_eq _ (fun j => ?_) _
    obtain ⟨b, c, p, z, rfl⟩ : ∃ (b : Fin 8) (c : Fin 768) (p : Fin 512) (z : Fin 1), j = ValueIdx.ix4 b c p z :=
      ⟨j 0, j 1, j 2, j 3, ValueIdx.eq_ix4 j⟩
    rw [hw]; exact h _
  unfold take
  rw [ValueIdx.select_apply, hr, ValueIdx.select_one, gather_apply f _ b c p q (by rw [hw, hq])]

end Cert.Take

end
-- ==== Proof.Rest.lean ====
/-
  The pixels left over once the first 512 pixels of every image are picked: clearing the picked ones from a mask of ones
  and sorting the pixels by number, the picked ones last, gives the pixels 512, 513, … in order.
-/
module

public import proofs.«01_k».proof.Proof.Steps
public import proofs.«01_k».proof.Proof.Ties
public import Idealize.ShloMosaic.Lib.ValueIdx
public import Idealize.ShloMosaic.Lib.ValueLayout
public import Idealize.ShloMosaic.Lib.WordCmp
public import Idealize.ShloMosaic.Lib.Routing.OpsSet
public import Idealize.ShloMosaic.Lib.Routing.OpsPair

@[expose] public section

noncomputable section

namespace Cert.Rest

open Cert.ReferenceIdeal Idealize.ShloMosaic
open Cert.Steps

/-- Two columns side by side, read in the first and in the second. -/
theorem beside_zero {α : Type} (x y : S8x512x1.Idx → α) (h) (b : Fin 8) (p : Fin 512) :
    concatenate S8x512x2 2 [⟨S8x512x1, x⟩, ⟨S8x512x1, y⟩] h (ValueIdx.ix3 b p 0) = x (ValueIdx.ix3 b p 0) := by
  refine congrArg x (funext fun a => Fin.ext ?_)
  match a with
  | ⟨0, _⟩ => rfl
  | ⟨1, _⟩ => rfl
  | ⟨2, _⟩ => rfl

theorem beside_one {α : Type} (x y : S8x512x1.Idx → α) (h) (b : Fin 8) (p : Fin 512) :
    concatenate S8x512x2 2 [⟨S8x512x1, x⟩, ⟨S8x512x1, y⟩] h (ValueIdx.ix3 b p 1) = y (ValueIdx.ix3 b p 0) := by
  refine congrArg y (funext fun a => Fin.ext ?_)
  match a with
  | ⟨0, _⟩ => rfl
  | ⟨1, _⟩ => rfl
  | ⟨2, _⟩ => rfl

/-- The first word of a pair is the image's. -/
theorem pairs_image (idx : IVec S8x512 32) (b : Fin 8) (p : Fin 512) :
    pairs idx (ValueIdx.ix3 b p 0) = imageWords (ValueIdx.ix3 b p 0) := beside_zero _ _ _ b p

/-- The second is the pixel's. -/
theorem pairs_pixel (idx : IVec S8x512 32) (b : Fin 8) (p : Fin 512) :
    pairs idx (ValueIdx.ix3 b p 1) = pixelWords idx (ValueIdx.ix3 b p 0) := beside_one _ _ _ b p

/-- The image's word is its number. -/
theorem imageWords_toInt (b : Fin 8) (p : Fin 512) (z : Fin 1) : (imageWords (ValueIdx.ix3 b p z)).toInt = b.val := by
  have hb : b.val < 8 := b.isLt
  have h : imageWords (ValueIdx.ix3 b p z)
      = Scalar.select (IntOp.cmpi .slt (BitVec.ofNat 32 b.val) 0#32) (IntOp.addi (BitVec.ofNat 32 b.val) 8#32)
          (BitVec.ofNat 32 b.val) := rfl
  rw [h, Routing.wrap_of_lt _ _ (by rw [WordCmp.toNat_ofNat_of_lt] <;> omega), WordCmp.toInt_ofNat_of_lt (by omega)]

/-- The pixel's word, for an index that is not negative, is that index. -/
theorem pixelWords_toInt (idx : IVec S8x512 32) (b : Fin 8) (p : Fin 512) (z : Fin 1)
    (h : idx (ValueIdx.ix2 b p) = BitVec.ofNat 32 p.val) : (pixelWords idx (ValueIdx.ix3 b p z)).toInt = p.val := by
  have hp : p.val < 512 := p.isLt
  have e : pixelWords idx (ValueIdx.ix3 b p z)
      = Scalar.select (IntOp.cmpi .slt (idx (ValueIdx.ix2 b p)) 0#32) (IntOp.addi (idx (ValueIdx.ix2 b p)) 1024#32)
          (idx (ValueIdx.ix2 b p)) := by
    have hi : ∀ k : S8x512.Idx, k = ValueIdx.ix2 b p →
        Scalar.select (IntOp.cmpi .slt (idx k) 0#32) (IntOp.addi (idx k) 1024#32) (idx k)
          = Scalar.select (IntOp.cmpi .slt (idx (ValueIdx.ix2 b p)) 0#32) (IntOp.addi (idx (ValueIdx.ix2 b p)) 1024#32)
              (idx (ValueIdx.ix2 b p)) := fun k hk => by rw [hk]
    refine hi _ (funext fun a => Fin.ext ?_)
    match a with
    | ⟨0, _⟩ => rfl
    | ⟨1, _⟩ => rfl
  rw [e, h, Routing.wrap_of_lt _ _ (by rw [WordCmp.toNat_ofNat_of_lt] <;> omega), WordCmp.toInt_ofNat_of_lt (by omega)]

/-- Where pick `p` of image `b` lands: at pixel `p` of image `b`. -/
theorem lands (idx : IVec S8x512 32) (hidx : ∀ b p, idx (ValueIdx.ix2 b p) = BitVec.ofNat 32 p.val) (a : Fin 8)
    (p : Fin 512) (b : Fin 8) (n : Fin 1024) :
    (scatter_S8x1024_S8x512x2_S8x512_n_01_01_2).resultIdx? (ValueIdx.ix2 a p) (pairs idx) = some (ValueIdx.ix2 b n)
      ↔ a.val = b.val ∧ p.val = n.val := by
  refine (Routing.scatter_lands2 (R := 8) (C := 1024) (A := 8) (B := 512) _ rfl rfl rfl (pairs idx) a p b n).trans ?_
  rw [pairs_image, pairs_pixel, imageWords_toInt, pixelWords_toInt _ _ _ _ (hidx a p)]
  omega

/-- The mask after the picked pixels are cleared. -/
theorem unpicked_apply (idx : IVec S8x512 32) (hidx : ∀ b p, idx (ValueIdx.ix2 b p) = BitVec.ofNat 32 p.val) (b : Fin 8)
    (n : Fin 1024) : unpicked idx (ValueIdx.ix2 b n) = if n.val < 512 then 0#1 else 1#1 := by
  unfold unpicked
  split
  case isTrue h =>
    exact Routing.scatter_set_hit _ _ _ _ _ _ (fun _ _ => rfl) (ValueIdx.ix2 b ⟨n.val, h⟩)
      ((lands idx hidx _ _ _ _).mpr ⟨rfl, rfl⟩)
  case isFalse h =>
    refine (Routing.scatter_set_miss _ _ _ _ _ fun k hk => ?_).trans rfl
    obtain ⟨a, p, rfl⟩ : ∃ (a : Fin 8) (p : Fin 512), k = ValueIdx.ix2 a p := ⟨k 0, k 1, ValueIdx.eq_ix2 k⟩
    have := ((lands idx hidx _ _ _ _).mp hk).2
    have := p.isLt
    omega

/-- The key of each pixel: 1024 more than its number for the first 512, its number for the others. -/
theorem keys_apply (mask : IVec S8x1024 1)
    (hm : ∀ b n, mask (ValueIdx.ix2 b n) = if n.val < 512 then 0#1 else 1#1) (b : Fin 8) (n : Fin 1024) :
    keys mask (ValueIdx.ix2 b n) = BitVec.ofNat 32 (if n.val < 512 then 1024 + n.val else n.val) := by
  have e : keys mask (ValueIdx.ix2 b n)
      = Scalar.select (mask (ValueIdx.ix2 b n)) (BitVec.ofNat 32 n.val) (IntOp.addi 1024#32 (BitVec.ofNat 32 n.val)) := rfl
  rw [e, hm]
  split
  · rw [ValueIdx.select_zero]
    exact (BitVec.ofNat_add 1024 n.val).symm
  · rw [ValueIdx.select_one]

/-- The order of the keys: the pixels 512, …, 1023, then 0, …, 511. -/
def order (p : Fin 1024) : Fin 1024 := ⟨(p.val + 512) % 1024, Nat.mod_lt _ (by decide)⟩

theorem order_surjective : Function.Surjective order := fun p =>
  ⟨⟨(p.val + 512) % 1024, Nat.mod_lt _ (by decide)⟩, Fin.ext (by
    have := p.isLt
    show ((p.val + 512) % 1024 + 512) % 1024 = p.val
    omega)⟩

/-- In that order the keys increase. -/
theorem order_key (p : Fin 1024) :
    (if (order p).val < 512 then 1024 + (order p).val else (order p).val) = p.val + 512 := by
  have := p.isLt
  show (if (p.val + 512) % 1024 < 512 then 1024 + (p.val + 512) % 1024 else (p.val + 512) % 1024) = _
  split <;> omega

/-- The pixels left over: place `p` holds pixel `512 + p`. -/
theorem rest_apply (mask : IVec S8x1024 1)
    (hm : ∀ b n, mask (ValueIdx.ix2 b n) = if n.val < 512 then 0#1 else 1#1) (b : Fin 8) (p : Fin 512) :
    rest mask (ValueIdx.ix2 b p) = BitVec.ofNat 32 (512 + p.val) := by
  have hp := p.isLt
  unfold rest
  rw [ValueIdx.slice2_axis1_apply 0 _ _ b p (⟨p.val, by omega⟩ : Fin 1024) (by simp)]
  have hd : 1 < S8x1024.rank := by decide
  have hal : ∀ k n : Fin 1024, Shape.Idx.along (s := S8x1024) (ValueIdx.ix2 b k) ⟨1, hd⟩ n = ValueIdx.ix2 b n := by
    intro k n
    funext a
    match a with
    | ⟨0, _⟩ => rfl
    | ⟨1, _⟩ => rfl
  have hs : sortedFrom (fun k k' : Fin 1024 =>
      comparator_i32_d1 (keys mask (Shape.Idx.along (s := S8x1024) (ValueIdx.ix2 b ⟨p.val, by omega⟩) ⟨1, hd⟩ k))
        (keys mask (Shape.Idx.along (s := S8x1024) (ValueIdx.ix2 b ⟨p.val, by omega⟩) ⟨1, hd⟩ k')) == 1#1) = order := by
    refine Ties.sortedFrom_eq _ _ order_surjective fun i j => ?_
    rw [hal, hal, keys_apply mask hm, keys_apply mask hm, order_key, order_key]
    have hi := i.isLt
    have hj := j.isLt
    show (BitVec.ofBool (decide ((BitVec.ofNat 32 (i.val + 512)).toInt < (BitVec.ofNat 32 (j.val + 512)).toInt)) == 1#1) = _
    rw [WordCmp.toInt_ofNat_of_lt (by omega), WordCmp.toInt_ofNat_of_lt (by omega), Bool.eq_iff_iff, beq_iff_eq,
      WordCmp.ofBool_decide_eq_one_iff, decide_eq_true_iff, Fin.lt_def]
    omega
  unfold Host.sort
  rw [dif_pos hd]
  refine (congrArg (fun σ : Fin 1024 → Fin 1024 => keys mask (Shape.Idx.along (s := S8x1024)
    (ValueIdx.ix2 b ⟨p.val, by omega⟩) ⟨1, hd⟩ (σ ⟨p.val, by omega⟩))) hs).trans ?_
  show keys mask (Shape.Idx.along (s := S8x1024) (ValueIdx.ix2 b ⟨p.val, by omega⟩) ⟨1, hd⟩ (order ⟨p.val, by omega⟩)) = _
  rw [hal, keys_apply mask hm, order_key, Nat.add_comm]

end Cert.Rest

end
-- ==== Proof.RefValue.lean ====
/-
  The reference's two results on a finite argument: the two halves of the argument. The weights all tie, so the 512
  greatest are the first 512 pixels and those left over the last 512.
-/
module

public import proofs.«01_k».proof.Pre_finite
public import proofs.«01_k».proof.Proof.Half
public import proofs.«01_k».proof.Proof.Steps
public import proofs.«01_k».proof.Proof.Ties
public import proofs.«01_k».proof.Proof.Weights
public import proofs.«01_k».proof.Proof.Take
public import proofs.«01_k».proof.Proof.Rest
public import Idealize.ShloMosaic.Lib.Pipeline.Value

@[expose] public section

noncomputable section

namespace Cert.RefValue

open Cert.ReferenceIdeal Idealize.ShloMosaic
open Cert.Steps Cert.Weights Cert.Half

/-- Where the precondition holds, every entry of the argument is a real number. -/
theorem isReal_of_finite [Cert.Pre_finite.Facts] (x : FVec Ideal S8x768x32x32 .f32)
    (h : Cert.Pre_finite.fn (F := Ideal) x = fun _ => 1#1) (i : S8x768x32x32.Idx) : IsReal (x i) := by
  have e : Cert.Pre_finite.fn (F := Ideal) x i
      = BitVec.ofBool (decide (max (x i) (-(x i)) < Ideal.ofBits .f32 0x7F800000#32)) := rfl
  have h1 := (e.symm.trans (congrFun h i))
  rw [posInf, WordCmp.ofBool_decide_eq_one_iff, max_lt_iff] at h1
  refine isReal_of_ne (fun hx => ?_) h1.1.ne
  rw [hx] at h1
  exact absurd h1.2 (by simp)

/-- A pixel of the flattened images. -/
theorem pixels_apply {F : FTy → Type} [FloatOps F] (x : FVec F S8x768x32x32 .f32) (b : Fin 8) (c : Fin 768) (q : Fin 1024) :
    pixels x (ValueIdx.ix3 b c q) = at_ x b c q := by
  unfold pixels at_
  refine shapeCast_apply _ _ _ _ ?_
  rw [Shape.rowMajor_val_three, Shape.rowMajor_val_four]
  show ((b.val * 768 + c.val) * 32 + q.val / 32) * 32 + q.val % 32 = (b.val * 768 + c.val) * 1024 + q.val
  omega

/-- The flattened images of a real argument are real. -/
theorem pixels_isReal (x : FVec Ideal S8x768x32x32 .f32) (hx : ∀ i, IsReal (x i)) (j : S8x768x1024.Idx) :
    IsReal (pixels x j) := hx _

/-- The picks of a real argument are the first 512 pixels. -/
theorem chosen_apply (x : FVec Ideal S8x768x32x32 .f32) (hx : ∀ i, IsReal (x i)) (b : Fin 8) (p : Fin 512) :
    chosen x (ValueIdx.ix2 b p) = BitVec.ofNat 32 p.val := by
  unfold chosen picks
  rw [weights_eq _ (gram_isReal _ (pixels_isReal x hx))]
  refine Ties.topK_indices (d := 8) (n := 1024) (k := 512) _ _ (fun i j => ?_) _ b p
  exact congrArg BitVec.ofBool (decide_eq_false (lt_irrefl _))

/-- A half image read at an entry. -/
theorem images_apply {F : FTy → Type} [FloatOps F] (v : FVec F S8x768x512 .f32) (b : Fin 8) (c : Fin 768) (h : Fin 32)
    (w : Fin 16) : images v (ValueIdx.ix4 b c h w) = v (ValueIdx.ix3 b c (place h w)) := by
  unfold images
  refine shapeCast_apply _ _ _ _ ?_
  rw [Shape.rowMajor_val_three, Shape.rowMajor_val_four]
  show (b.val * 768 + c.val) * 512 + (h.val * 16 + w.val) = ((b.val * 768 + c.val) * 32 + h.val) * 16 + w.val
  omega

/-- Taking the pixels `o, …, o + 511` gives that half. -/
theorem images_take {F : FTy → Type} [FloatOps F] (x : FVec F S8x768x32x32 .f32) (idx : IVec S8x512 32) (o : ℕ)
    (ho : o + 512 ≤ 1024) (hidx : ∀ b p, idx (ValueIdx.ix2 b p) = BitVec.ofNat 32 (o + p.val)) :
    images (take (pixels x) (perChannel idx)) = half o ho x := by
  have hn : ∀ b p, (idx (ValueIdx.ix2 b p)).toNat = o + p.val := fun b p => by
    have := p.isLt
    rw [hidx, WordCmp.toNat_ofNat_of_lt (by omega)]
  funext i
  obtain ⟨b, c, h, w, rfl⟩ : ∃ (b : Fin 8) (c : Fin 768) (h : Fin 32) (w : Fin 16), i = ValueIdx.ix4 b c h w :=
    ⟨i 0, i 1, i 2, i 3, ValueIdx.eq_ix4 i⟩
  rw [images_apply, Take.take_apply (pixels x) idx (fun j => ?_) b c (place h w) (from_ o ho (place h w)) (hn _ _),
    pixels_apply]
  · rfl
  · obtain ⟨b, p, rfl⟩ : ∃ (b : Fin 8) (p : Fin 512), j = ValueIdx.ix2 b p := ⟨j 0, j 1, ValueIdx.eq_ix2 j⟩
    have := p.isLt
    rw [hn]; omega

/-- The reference's first result is the first half. -/
theorem first (m : (ℓ : Loc nD τ sig) → Buf (Elt Ideal) ℓ) (c : Dev nD)
    (hx : ∀ i, IsReal ((m ((c.tc : Thread nD τ).loc main_arg0) : FVec Ideal S8x768x32x32 .f32) i)) :
    Cert.ReferenceIdeal.Value.res_main_v49 m c = half 0 (by decide) (m ((c.tc : Thread nD τ).loc main_arg0)) := by
  rw [res0_eq]
  exact images_take _ _ 0 _ fun b p => by rw [chosen_apply _ hx, Nat.zero_add]

/-- The second is the second half. -/
theorem second (m : (ℓ : Loc nD τ sig) → Buf (Elt Ideal) ℓ) (c : Dev nD)
    (hx : ∀ i, IsReal ((m ((c.tc : Thread nD τ).loc main_arg0) : FVec Ideal S8x768x32x32 .f32) i)) :
    Cert.ReferenceIdeal.Value.res_main_v50 m c = half 512 (by decide) (m ((c.tc : Thread nD τ).loc main_arg0)) := by
  rw [res1_eq]
  exact images_take _ _ 512 _ fun b p =>
    Rest.rest_apply _ (fun b n => Rest.unpicked_apply _ (chosen_apply _ hx) b n) b p

end Cert.RefValue

end
-- ==== Proof.lean ====
/-
  The certificate: the frames of the kernel and of the reference, and the equality of their results on finite arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Body
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The one shape relation of the precondition: a scalar broadcasts to the argument's shape. -/
theorem finite_facts : Cert.Pre_finite.Facts := ⟨by decide⟩

/-- The kernel's frame. -/
theorem frame_Kernel : Cert.quiescent_Kernel (hKernel := Cert.Kernel.Gen.facts) := fun m ρ _ =>
  Cert.KernelIdeal.Hand.run_frame (F := Bits) m ρ

/-- The idealized kernel's. -/
theorem frame_KernelIdeal : Cert.quiescent_KernelIdeal (hKernelIdeal := Cert.KernelIdeal.Gen.facts) := fun m ρ _ =>
  Cert.KernelIdeal.Hand.run_frame (F := Ideal) m ρ

/-- The idealized reference's: it has no semaphore. -/
theorem frame_ReferenceIdeal : Cert.quiescent_ReferenceIdeal (hReferenceIdeal := Cert.ReferenceIdeal.Gen.facts) := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

/-- On a finite argument the two programs end with the same results: its two halves. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hm
  refine ⟨fun c => Cert.Half.half 0 (by decide) (m ((c.tc : Thread Cert.KernelIdeal.nD Cert.KernelIdeal.τ).loc Cert.KernelIdeal.main_arg0)),
    fun c => Cert.Half.half 512 (by decide) (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨(h c).1.trans (Cert.KernelValue.first m c), (h c).2.1.trans (Cert.KernelValue.second m c), (h c).2.2⟩)
      (Cert.KernelIdeal.Hand.run_values (F := Ideal) m g)
  · haveI := finite_facts
    have hx := fun c : Dev Cert.ReferenceIdeal.nD => Cert.RefValue.isReal_of_finite
      (m' ((c.tc : Thread Cert.ReferenceIdeal.nD Cert.ReferenceIdeal.τ).loc Cert.ReferenceIdeal.main_arg0))
      ((congrArg (Cert.Pre_finite.fn (F := Ideal)) (hm c)).trans (hpre c))
    exact (θ_run (Cert.ReferenceIdeal.defs (F := Ideal)) _ _).mono
      (fun _ h c => ⟨(h c).1.trans ((Cert.RefValue.first m' c (hx c)).trans (congrArg (Cert.Half.half 0 (by decide)) (hm c))),
        (h c).2.1.trans ((Cert.RefValue.second m' c (hx c)).trans (congrArg (Cert.Half.half 512 (by decide)) (hm c))), (h c).2.2⟩)
      (Cert.ReferenceIdeal.Value.run (F := Ideal) m' g')

/-- Everything the certificate claims. -/
theorem claim : Cert.Claim :=
  ⟨Cert.Kernel.Gen.facts, Cert.KernelIdeal.Gen.facts, Cert.ReferenceIdeal.Gen.facts, finite_facts,
    frame_Kernel, frame_KernelIdeal, fun m g _ => frame_KernelIdeal m g trivial,
    frame_ReferenceIdeal, fun m g _ => frame_ReferenceIdeal m g trivial, trivial, algebraic⟩

end Cert.Proof

end
